-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S8x8 : Shape := ⟨2, ![8, 8]⟩
abbrev S13x128 : Shape := ⟨2, ![13, 128]⟩
abbrev S_ : Shape := ⟨0, ![]⟩

class Facts : Prop where
  bcast_S_S8x8 : S_.BroadcastsInDim S8x8 (![] : Fin 0 → Fin S8x8.rank)
  reducesTo_S8x8_S_d0_1 : S8x8.ReducesTo [0, 1] S_
  h_S_ : 0 < S_.numel

variable [Facts]

def fn {F : FTy → Type} [FloatOps F] (main_arg0 : IVec S8x8 32) (main_arg1 : FVec F S13x128 .f32) : IVec S_ 1 :=
  let main_c : IVec S_ 32 := constantI S_ 32 0#32
  let main_v0 : IVec S8x8 32 := broadcastInDim S8x8 ![] bcast_S_S8x8 main_c
  let main_v1 : IVec S8x8 1 := cmpi .sge main_arg0 main_v0
  let main_c_0 : IVec S_ 32 := constantI S_ 32 13#32
  let main_v2 : IVec S8x8 32 := broadcastInDim S8x8 ![] bcast_S_S8x8 main_c_0
  let main_v3 : IVec S8x8 1 := cmpi .slt main_arg0 main_v2
  let main_v4 : IVec S8x8 1 := andi main_v1 main_v3
  let main_c_1 : IVec S_ 1 := constantI S_ 1 1#1
  let main_v5 : IVec S_ 1 := (fun x v => Host.reduce IntOp.andi x v reducesTo_S8x8_S_d0_1 h_S_) main_v4 main_c_1
  main_v5
-- ==== Kernel.lean ====
abbrev S8x8 : Shape := ⟨2, ![8, 8]⟩
abbrev S13x128 : Shape := ⟨2, ![13, 128]⟩
abbrev S64 : Shape := ⟨1, ![64]⟩
abbrev S64x128 : Shape := ⟨2, ![64, 128]⟩
abbrev S_ : Shape := ⟨0, ![]⟩
abbrev S1 : Shape := ⟨1, ![1]⟩
abbrev S1x128 : Shape := ⟨2, ![1, 128]⟩
abbrev S128 : Shape := ⟨1, ![128]⟩

abbrev nBuf : Table → Nat
  | .hbm => 4
  | .local .scScalar .smem => 1
  | _ => 0

abbrev bufTy : (tb : Table) → Fin (nBuf tb) → BufTy
  | .hbm, ⟨0, _⟩ => ⟨S8x8, .i32⟩
  | .hbm, ⟨1, _⟩ => ⟨S13x128, .f32⟩
  | .hbm, ⟨2, _⟩ => ⟨S64, .i32⟩
  | .hbm, ⟨3, _⟩ => ⟨S64x128, .f32⟩
  | .local .scScalar .smem, ⟨0, _⟩ => ⟨S64, .i32⟩
  | _, _ => ⟨S8x8, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scs : Ref sig .scScalar := ⟨.hbm, 2, rfl⟩
abbrev main_arg1_scs : Ref sig .scScalar := ⟨.hbm, 1, rfl⟩
abbrev main_v1_scs : Ref sig .scScalar := ⟨.hbm, 3, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_0 : BitVec 32 := 0#32
  let c64_i32 : BitVec 32 := 64#32
  let v0 : BitVec 32 := Scalar.addi c0_i32_0 c64_i32
  let c1_i32 : BitVec 32 := 1#32
  ⟨c0_i32_0, v0, c1_i32⟩
def k0_off1 (k0_t1 : Fin k0_t1_loop.trips) : Fin 1 → Nat :=
  let c0_i32_0 : BitVec 32 := 0#32
  let c1_i32 : BitVec 32 := 1#32
  let arg6 : BitVec 32 := Scf.iv c0_i32_0 c1_i32 k0_t1
  let v2 : Index := Scalar.indexCast arg6
  ![v2.toNat]
def k0_off2 (k0_t1 : Fin k0_t1_loop.trips) : Fin 2 → Nat :=
  let c0_i32_0 : BitVec 32 := 0#32
  let c1_i32 : BitVec 32 := 1#32
  let arg6 : BitVec 32 := Scf.iv c0_i32_0 c1_i32 k0_t1
  let c0_i32_7 : BitVec 32 := 0#32
  ![arg6.toNat, 0]
def k0_off3 (v3 : BitVec 32) : Fin 2 → Nat :=
  let c0_i32_8 : BitVec 32 := 0#32
  ![v3.toNat, 0]

def k0_chk1 (v3 : BitVec 32) : Prop :=
  (∀ a, (k0_off3 v3) a + S1x128.size a ≤ S13x128.size a)
theorem k0_off3_inb : ∀ (v3 : BitVec 32) (k0_hw1 : k0_chk1 v3), ∀ a, (k0_off3 v3) a + S1x128.size a ≤ S13x128.size a := fun v3 k0_hw1 => k0_hw1

@[reducible] def k0_t2_loop : Scf.Loop 32 :=
  let c0_i32_3 : BitVec 32 := 0#32
  let c64_i32_4 : BitVec 32 := 64#32
  let v1 : BitVec 32 := Scalar.addi c0_i32_3 c64_i32_4
  let c1_i32_5 : BitVec 32 := 1#32
  ⟨c0_i32_3, v1, c1_i32_5⟩
def k0_off4 (k0_t2 : Fin k0_t2_loop.trips) : Fin 2 → Nat :=
  let c0_i32_3 : BitVec 32 := 0#32
  let c1_i32_5 : BitVec 32 := 1#32
  let arg6 : BitVec 32 := Scf.iv c0_i32_3 c1_i32_5 k0_t2
  let c0_i32_8 : BitVec 32 := 0#32
  ![arg6.toNat, 0]
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S8x8 : Shape := ⟨2, ![8, 8]⟩
abbrev S13x128 : Shape := ⟨2, ![13, 128]⟩
abbrev S_ : Shape := ⟨0, ![]⟩
abbrev S8x8x1 : Shape := ⟨3, ![8, 8, 1]⟩
abbrev S1 : Shape := ⟨1, ![1]⟩
abbrev S1x1x1 : Shape := ⟨3, ![1, 1, 1]⟩
abbrev S8x8x128 : Shape := ⟨3, ![8, 8, 128]⟩
abbrev S64x128 : Shape := ⟨2, ![64, 128]⟩

abbrev nBuf : Space → Nat
  | .hbm => 26
  | .vmem => 0
  | .smem => 0
  | _ => 0

abbrev bufTy : (tb : Table) → Fin (tcTables nBuf tb) → BufTy
  | .hbm, ⟨0, _⟩ => ⟨S8x8, .i32⟩
  | .hbm, ⟨1, _⟩ => ⟨S13x128, .f32⟩
  | .hbm, ⟨2, _⟩ => ⟨S_, .i32⟩
  | .hbm, ⟨3, _⟩ => ⟨S8x8, .i32⟩
  | .hbm, ⟨4, _⟩ => ⟨S8x8, .i1⟩
  | .hbm, ⟨5, _⟩ => ⟨S_, .i32⟩
  | .hbm, ⟨6, _⟩ => ⟨S8x8, .i32⟩
  | .hbm, ⟨7, _⟩ => ⟨S8x8, .i32⟩
  | .hbm, ⟨8, _⟩ => ⟨S8x8, .i32⟩
  | .hbm, ⟨9, _⟩ => ⟨S8x8x1, .i32⟩
  | .hbm, ⟨10, _⟩ => ⟨S1, .i32⟩
  | .hbm, ⟨11, _⟩ => ⟨S_, .i32⟩
  | .hbm, ⟨12, _⟩ => ⟨S8x8x1, .i32⟩
  | .hbm, ⟨13, _⟩ => ⟨S8x8x1, .i1⟩
  | .hbm, ⟨14, _⟩ => ⟨S1x1x1, .i32⟩
  | .hbm, ⟨15, _⟩ => ⟨S8x8x1, .i32⟩
  | .hbm, ⟨16, _⟩ => ⟨S8x8x1, .i1⟩
  | .hbm, ⟨17, _⟩ => ⟨S8x8x1, .i1⟩
  | .hbm, ⟨18, _⟩ => ⟨S_, .i1⟩
  | .hbm, ⟨19, _⟩ => ⟨S8x8, .i1⟩
  | .hbm, ⟨20, _⟩ => ⟨S8x8x128, .f32⟩
  | .hbm, ⟨21, _⟩ => ⟨S8x8x128, .i1⟩
  | .hbm, ⟨22, _⟩ => ⟨S_, .f32⟩
  | .hbm, ⟨23, _⟩ => ⟨S8x8x128, .f32⟩
  | .hbm, ⟨24, _⟩ => ⟨S8x8x128, .f32⟩
  | .hbm, ⟨25, _⟩ => ⟨S64x128, .f32⟩
  | _, _ => ⟨S8x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Rows.lean ====
/-
  The rows the kernel moves, and the value it leaves.

  The kernel copies 64 rows: row `t` of the output takes the table row named by the `t`-th index word. This module names
  the two row memrefs as the kernel spells them, says which elements each covers (the output's rows are disjoint and
  cover it), and shows that one copy lands exactly what `gathered` says of its row.
-/
module

public import proofs.«01_k».proof.KernelIdeal
public import proofs.«01_k».proof.Proof.Gen.KernelIdeal
public import Idealize.ShloMosaic.Lib.Ring
public import Idealize.ShloMosaic.Lib.ValueIdxCore

@[expose] public section

noncomputable section

namespace Cert.Proof.Gather

open Cert.KernelIdeal Cert.KernelIdeal.Gen
open Idealize.ShloMosaic Idealize.ShloMosaic.ValueIdx

variable {F : FTy → Type}

/-! ## The index words -/

/-- Every word of a list of 64 names a row of the 13-row table. -/
def InRange (ix : S64.Idx → Elt F .i32) : Prop := ∀ i, BitVec.toNat (ix i) < 13

/-- The table row a word names. Reduced modulo 13 so that it is a row for every word; for a word in range it is the
    word itself (`rowOf_val`). -/
def rowOf (w : BitVec 32) : Fin 13 := ⟨w.toNat % 13, Nat.mod_lt _ (by decide)⟩

/-- A word in range names the row of its own number. -/
theorem rowOf_val {w : BitVec 32} (h : w.toNat < 13) : (rowOf w).val = w.toNat := Nat.mod_eq_of_lt h

/-- The check the kernel makes of an index word before its copy: a word below 13 passes. -/
theorem chk_of_lt {w : BitVec 32} (h : w.toNat < 13) : k0_chk1 w := by
  intro a
  match a with
  | ⟨0, _⟩ => show w.toNat + 1 ≤ 13; omega
  | ⟨1, _⟩ => show 0 + 128 ≤ 128; omega

/-! ## What the kernel leaves in the output -/

/-- The gathered rows: element `(t, l)` is the table's at row `ix t`, lane `l`. -/
def gathered (ix : S64.Idx → Elt F .i32) (tb : S13x128.Idx → Elt F .f32) : S64x128.Idx → Elt F .f32 :=
  fun y => tb (ix2 (rowOf (ix (ix1 (y 0)))) (y 1))

/-! ## The row memrefs -/

/-- Row `t` lies inside the output. -/
theorem outRow_inb (t : Fin 64) : ∀ a, (![t.val, 0] : Fin 2 → Nat) a + S1x128.size a ≤ S64x128.size a := by
  intro a; have := t.isLt
  match a with
  | ⟨0, _⟩ => show t.val + 1 ≤ 64; omega
  | ⟨1, _⟩ => show 0 + 128 ≤ 128; omega

/-- Row `r` lies inside the table. -/
theorem tabRow_inb (r : Fin 13) : ∀ a, (![r.val, 0] : Fin 2 → Nat) a + S1x128.size a ≤ S13x128.size a := by
  intro a; have := r.isLt
  match a with
  | ⟨0, _⟩ => show r.val + 1 ≤ 13; omega
  | ⟨1, _⟩ => show 0 + 128 ≤ 128; omega

/-- Row `t` of the output, as the kernel names a copy's destination. -/
def outRow (t : Fin 64) : Memref sig .scScalar .hbm S128 .f32 :=
  ((Memref.whole main_v1_scs).slice (Rect.unit (s := S64x128) ![t.val, 0] S1x128.size (outRow_inb t)) (fun _ => rfl)).squeeze S128 Facts₀.squeezes_S1x128_S128

/-- Row `r` of the table, as the kernel names a copy's source. -/
def tabRow (r : Fin 13) : Memref sig .scScalar .hbm S128 .f32 :=
  ((Memref.whole main_arg1_scs).slice (Rect.unit (s := S13x128) ![r.val, 0] S1x128.size (tabRow_inb r)) (fun _ => rfl)).squeeze S128 Facts₀.squeezes_S1x128_S128

/-- The elements of the output's row `t`. -/
abbrev outSet (t : Fin 64) : Finset S64x128.Idx := (Rect.unit (s := S64x128) ![t.val, 0] S1x128.size (outRow_inb t)).set

/-- A row memref of the output covers the row's elements. -/
theorem outRow_set (t : Fin 64) : (outRow t).view.set = outSet t := by
  unfold outRow; exact (View.set_reshape _ _).trans (View.set_slice_whole _ _)

/-- An element is in row `t` when its first coordinate is `t`. -/
theorem mem_outSet (t : Fin 64) (y : S64x128.Idx) : y ∈ outSet t ↔ (y 0).val = t.val := by
  rw [Rect.mem_set_unit]
  have h1 : (y 1).val < 128 := (y 1).isLt
  constructor
  · intro H; have a0 : t.val ≤ (y 0).val ∧ (y 0).val < t.val + 1 := H 0; omega
  · intro H a
    match a with
    | ⟨0, _⟩ => show t.val ≤ (y 0).val ∧ (y 0).val < t.val + 1; omega
    | ⟨1, _⟩ => show 0 ≤ (y 1).val ∧ (y 1).val < 0 + 128; omega

/-- Two rows of the output share no element. -/
theorem outSet_disjoint (t t' : Fin 64) (hne : t ≠ t') : Disjoint (outSet t) (outSet t') := by
  rw [Finset.disjoint_left]; intro y hy hy'
  rw [mem_outSet] at hy hy'; exact hne (Fin.ext (hy.symm.trans hy'))

/-- The 64 rows are the whole output. -/
theorem outSet_cover : Finset.univ.biUnion outSet = Finset.univ := by
  ext y; simp only [Finset.mem_biUnion, Finset.mem_univ, true_and, iff_true]
  exact ⟨y 0, (mem_outSet _ _).mpr rfl⟩

/-! ## One copy -/

/-- The element of the output under lane `x` of its row `t`. -/
def outAt (t : Fin 64) (x : S128.Idx) : S64x128.Idx := (outRow t).view.emb x

/-- It is in row `t`. -/
theorem outAt_row (t : Fin 64) (x : S128.Idx) : outAt t x 0 = t := by
  have h : outAt t x ∈ outSet t := (congrArg (outAt t x ∈ ·) (outRow_set t)).mp ((outRow t).view.emb_mem_set x)
  exact Fin.ext ((mem_outSet t _).mp h)

/-- The element of the table under lane `x` of its row `r`. -/
def tabAt (r : Fin 13) (x : S128.Idx) : S13x128.Idx := (tabRow r).view.emb x

/-- Lane `x` of a table row and lane `x` of an output row are the same lane: a copy moves each element straight down. -/
theorem tabAt_eq (r : Fin 13) (t : Fin 64) (x : S128.Idx) : tabAt r x = ix2 r (outAt t x 1) := by
  unfold tabAt outAt tabRow outRow
  funext a
  match a with
  | ⟨0, _⟩ =>
    refine Fin.ext ?_
    show r.val + 1 * ((Shape.reshapeEquiv (Facts₀.squeezes_S1x128_S128).numel_eq x : S1x128.Idx) 0).val = r.val
    have : ((Shape.reshapeEquiv (Facts₀.squeezes_S1x128_S128).numel_eq x : S1x128.Idx) 0).val < 1 := Fin.isLt _
    omega
  | ⟨1, _⟩ => rfl

/-- A copy of the table row `ix t` names onto row `t` of the output leaves there what `gathered` says, whatever the row held. -/
theorem landed (ix : S64.Idx → Elt F .i32) (tb : S13x128.Idx → Elt F .f32) (fo : S64x128.Idx → Elt F .f32) (t : Fin 64) :
    ∀ y ∈ (outRow t).view.set,
      (outRow t).view.write (Elt F) fo ((tabRow (rowOf (ix (ix1 t)))).view.read (Elt F) tb) Finset.univ y = gathered ix tb y := by
  intro y hy
  obtain ⟨x, -, rfl⟩ := Finset.mem_map.mp hy
  refine (View.write_emb_of_mem _ _ (Finset.mem_univ x)).trans ?_
  show tb (tabAt (rowOf (ix (ix1 t))) x) = tb (ix2 (rowOf (ix (ix1 (outAt t x 0)))) (outAt t x 1))
  rw [tabAt_eq _ t x, outAt_row]; rfl

end Cert.Proof.Gather

end
-- ==== Proof.Body.lean ====
/-
  The kernel's body on one SparseCore's sequencer.

  The sequencer copies the 64 index words into its scalar memory, then starts 64 row copies, all counted on one DMA
  semaphore, and only then waits 64 times. So nothing is known to have landed until the last wait: the 64 copies are one
  batch on that semaphore, each copy's delivery stated up front (its output row at what `gathered` says, and the share of
  the table it read through), and the batch is collected once after the waits. The table is read by all 64 copies at
  once, two of them perhaps through the same row: each copy reads under a share of its own.
-/
module

public import proofs.«01_k».proof.Proof.Rows
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal.Skeleton

@[expose] public section

noncomputable section

namespace Cert.Proof.Gather

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb (U := UU)

/-! ## The arrays -/

local notation "iW" => (Memref.whole Cert.KernelIdeal.main_v0_scs : Memref Cert.KernelIdeal.sig Kind.scScalar Space.hbm Cert.KernelIdeal.S64 EltTy.i32)
local notation "tW" => (Memref.whole Cert.KernelIdeal.main_arg1_scs : Memref Cert.KernelIdeal.sig Kind.scScalar Space.hbm Cert.KernelIdeal.S13x128 EltTy.f32)
local notation "oW" => (Memref.whole Cert.KernelIdeal.main_v1_scs : Memref Cert.KernelIdeal.sig Kind.scScalar Space.hbm Cert.KernelIdeal.S64x128 EltTy.f32)
local notation "sW" => (Memref.whole Cert.KernelIdeal.cc0_scratch0 : Memref Cert.KernelIdeal.sig Kind.scScalar Space.smem Cert.KernelIdeal.S64 EltTy.i32)

/-- The flat index words, the table and the output, as the TensorCore names them. -/
abbrev idxLoc (d : Dev nD) : Loc nD τ sig := (SparseCore.T d).loc main_v0
abbrev tabLoc (d : Dev nD) : Loc nD τ sig := (SparseCore.T d).loc main_arg1
abbrev outLoc (d : Dev nD) : Loc nD τ sig := (SparseCore.T d).loc main_v1

section Copies

variable (d : Dev nD) (c : Fin τ.nSC)
variable (ix : S64.Idx → Elt F .i32) (tb : S13x128.Idx → Elt F .f32)

/-- The index words in the sequencer's scalar memory. -/
abbrev smemPts (f : S64.Idx → Elt F .i32) : sProp 𝕄 := (sW).view.loc (S d c) ↦{fullShare} f

/-- The elements of the table's row `r`. -/
abbrev tabSet (r : Fin 13) : Finset S13x128.Idx := (tabRow r).view.set

/-- The table row copy `t` reads. -/
abbrev srcRow (t : Fin 64) : Fin 13 := rowOf (ix (ix1 t))

/-- The `t`-th read share of the whole table, of the row copy `t` reads, and of the rest of the table. -/
abbrev tabTok (t : Fin 64) : sProp 𝕄 := tabLoc d ↦{Transfers.shareTokN fullShare t.val} tb
abbrev rowTok (t : Fin 64) : sProp 𝕄 := tabLoc d ↦[tabSet (srcRow ix t)]{Transfers.shareTokN fullShare t.val} tb
abbrev restTok (t : Fin 64) : sProp 𝕄 := tabLoc d ↦[Finset.univ \ tabSet (srcRow ix t)]{Transfers.shareTokN fullShare t.val} tb

/-- Row `t` of the output at the contents `f`. -/
abbrev rowPts (f : S64x128.Idx → Elt F .f32) (t : Fin 64) : sProp 𝕄 := outLoc d ↦[outSet t]{fullShare} f

/-- What copy `t` delivers: its output row at the gathered values, and the read share it held. -/
abbrev delivery (t : Fin 64) : sProp 𝕄 := iprop(rowPts d (gathered ix tb) t ∗ rowTok d ix tb t)

/-- The units one row copy counts on its semaphore. -/
def rowCredit : ℕ := (outRow 0).view.dmaCredit

theorem rowCredit_pos : 0 < rowCredit := View.dmaCredit_pos _ (show 0 < S128.numel by decide)

/-- The semaphore the row copies count on, on this sequencer. -/
abbrev rowSem : SemLoc sig := .dma cc0_scratch1.sem

/-- The 64 row copies as one batch on their semaphore: `j` started, `u` units waited for. -/
abbrev rowBatch (j u : ℕ) : sProp 𝕄 := Transfers.Batch EC (S d c) rowSem none rowCredit (delivery d ix tb) j u

/-- A row of the output as the kernel's memref addresses it is that row of the TensorCore's array. -/
theorem rowPts_eq (t : Fin 64) (f : S64x128.Idx → Elt F .f32) :
    ((outRow t).view.loc (S d c) ↦[(outRow t).view.set]{fullShare} f : sProp 𝕄) = rowPts d f t :=
  congrArg (fun I => (outLoc d ↦[I]{fullShare} f : sProp 𝕄)) (outRow_set t)

variable [FloatOps F]

/-- Starting row copy `t`: from its output row (holding anything), its read share of the table and the batch with `t`
    copies started, the batch with `t + 1` started and the rest of the read share. -/
theorem wp_start {src dst : Memref sig .scScalar .hbm S128 .f32} (t : Fin 64) (hs : src = tabRow (srcRow ix t)) (hd : dst = outRow t)
    {hsrc : src.view.WordExact} {hdst : dst.view.WordExact} {hsem : DmaTarget.Typed (nD := nD) (p := .scScalar c) .hbm rowSem (.here dst)}
    {α : Type} {k : PUnit → Prog (TpuEff nD τ sig (Elt F) Λ₀ (.scScalar c)) α} {Q : α → sProp 𝕄} (fo : S64x128.Idx → Elt F .f32) :
    iprop(rowPts d fo t ∗ tabTok d tb t ∗ rowBatch d c ix tb t.val 0)
      ⊢ iprop((iprop(rowBatch d c ix tb (t.val + 1) 0 ∗ restTok d ix tb t) -∗ wp frame (wpE (defs₀ (F := F)) 𝒱₀ (S d c) none) Set.univ (k ⟨⟩) Q)
        -∗ wp frame (wpE (defs₀ (F := F)) 𝒱₀ (S d c) none) Set.univ (.op (.enqueueDma src (.here dst) rowSem hsrc hdst hsem) k) Q) := by
  subst hs hd
  iintro ⟨Ho, Ht, HB⟩ Hk
  ihave Ht' := (pointsTo_split_subset (Finset.subset_univ (tabSet (srcRow ix t)))).1 $$ Ht
  icases Ht' with ⟨Hrow, Hrest⟩
  ihave Ho' := (Entails.of_eq (rowPts_eq d c t fo).symm) $$ Ho
  iapply (Transfers.wp_dmaBatch EC 𝒱₀ (S d c) none (src := tabRow (srcRow ix t)) (dst := outRow t) (sm := rowSem) none rowCredit rfl subset_rfl
    (D := delivery d ix tb) (j := t.val) (u := 0) t.isLt (Nat.zero_le _)
    (by
      refine sep_mono ?_ .rfl
      refine (Entails.of_eq (pointsTo_congr (landed ix tb fo t))).trans ?_
      exact Entails.of_eq (rowPts_eq d c t _))) $$ [Hrow Ho' HB]
  · isplitl [Hrow]; · iexact Hrow
    isplitl [Ho'] <;> iassumption
  iintro HB
  iapply Hk
  isplitl [HB] <;> iassumption

/-! ## The loop that starts the copies -/

omit [FloatOps F] in
/-- A returned value is handed to what follows. -/
theorem ret_then {p : Proc τ} {α β : Type} (a : α) (k : α → Prog (TpuEff nD τ sig (Elt F) Λ₀ p) β) : (Prog.ret a).bind k = k a := rfl

theorem trips_start : k0_t1_loop.trips = 64 := by decide
theorem trips_wait : k0_t2_loop.trips = 64 := by decide

/-- Trip `k` of the starting loop starts the copy of its own number. -/
def copyOf (k : Fin k0_t1_loop.trips) : Fin 64 := ⟨k.val, trips_start ▸ k.isLt⟩

omit [FloatOps F] in
/-- The word the trip reads from scalar memory is the copy's index word. -/
theorem word_read (k : Fin k0_t1_loop.trips) (x : (Rect.unit (s := S64) (k0_off1 k) S1.size (k0_off1_inb k)).shape.Idx) :
    ((sW).access (Rect.unit (s := S64) (k0_off1 k) S1.size (k0_off1_inb k))).read (Elt F) ix x = ix (ix1 (copyOf k)) := by
  show ix ((Rect.unit (s := S64) (k0_off1 k) S1.size (k0_off1_inb k)).emb x) = ix (ix1 (copyOf k))
  congr 1
  funext a
  match a with
  | ⟨0, _⟩ =>
    refine Fin.ext ?_
    show k0_off1 k 0 + 1 * (x 0).val = k.val
    have hx : (x 0).val < 1 := (x 0).isLt
    have h0 : k0_off1 k 0 = k.val := by rw [k0_off1_eq]; rfl
    omega

/-- A row of the output sliced at offsets spelt otherwise. -/
theorem outRow_of (t : Fin 64) (o : Fin 2 → Nat) (ho : ∀ a, o a + S1x128.size a ≤ S64x128.size a) (h : o = ![t.val, 0]) :
    ((oW).slice (Rect.unit (s := S64x128) o S1x128.size ho) (fun _ => rfl)).squeeze S128 squeezes_S1x128_S128 = outRow t := by
  subst h; rfl

/-- The source the trip slices, at an index word in range, is the table row the word names. -/
theorem src_eq (w : BitVec 32) (hw : w.toNat < 13) (hc : k0_chk1 w) :
    ((tW).slice (Rect.unit (s := S13x128) (k0_off3 w) S1x128.size (k0_off3_inb w hc)) (fun _ => rfl)).squeeze S128 squeezes_S1x128_S128 = tabRow (rowOf w) := by
  have h : ∀ (o : Fin 2 → Nat) (ho : ∀ a, o a + S1x128.size a ≤ S13x128.size a), o = ![(rowOf w).val, 0] →
      ((tW).slice (Rect.unit (s := S13x128) o S1x128.size ho) (fun _ => rfl)).squeeze S128 squeezes_S1x128_S128 = tabRow (rowOf w) := by
    rintro o ho rfl; rfl
  exact h _ _ (by rw [rowOf_val hw]; rfl)

/-- Before trip `k` of the starting loop: the index words in scalar memory, `k` copies started, the output rows and read
    shares from `k` on still in hand, and of the read shares before `k` what their copies do not read. -/
def startAt (fo : S64x128.Idx → Elt F .f32) (k : ℕ) (_ : PUnit) : sProp 𝕄 :=
  iprop(smemPts d c ix ∗ rowBatch d c ix tb k 0
    ∗ bigSep (Ring.rangeSet 64 k 64) (rowPts d fo) ∗ bigSep (Ring.rangeSet 64 k 64) (tabTok d tb)
    ∗ bigSep (Ring.rangeSet 64 0 k) (restTok d ix tb))

/-- One trip of the starting loop. -/
theorem start_trip (L : grid0.Coords) (hr : InRange ix) (fo : S64x128.Idx → Elt F .f32) (k : Fin k0_t1_loop.trips) (acc : PUnit) :
    startAt d ((L 0).castLE hcore0) ix tb fo k.val acc
      ⊢ wp frame (wpE (defs₀ (F := F)) 𝒱₀ (S d ((L 0).castLE hcore0)) none) Set.univ
          (k0_t1_body L iW (Memref.isWhole_whole _) tW (Memref.isWhole_whole _) oW (Memref.isWhole_whole _) sW (Memref.isWhole_whole _) cc0_scratch1 cc0_scoped0 k acc)
          (startAt d ((L 0).castLE hcore0) ix tb fo (k.val + 1)) := by
  have hk : k.val < 64 := (copyOf k).isLt
  unfold startAt
  rw [Ring.bigSep_rangeSet_head (Φ := rowPts d fo) hk hk, Ring.bigSep_rangeSet_head (Φ := tabTok d tb) hk hk,
    Ring.bigSep_rangeSet_last (Φ := restTok d ix tb) (hi := k.val + 1) (Nat.succ_pos _) hk]
  iintro ⟨Hs, HB, ⟨Ho, Hos⟩, ⟨Ht, Hts⟩, Hrs⟩
  unfold k0_t1_body
  -- the load runs: the word read is the copy's index word
  sl_exec
  have hw : start_trip.sl.r ix k = ix (ix1 (copyOf k)) := word_read ix k _
  generalize start_trip.sl.r ix k = w at hw
  have hlt : BitVec.toNat w < 13 := hw ▸ hr _
  iapply (wp_assume 𝒱₀ (S d ((L 0).castLE hcore0)) none Set.univ (chk_of_lt hlt))
  iapply (wp_start d ((L 0).castLE hcore0) ix tb (copyOf k) ((src_eq w hlt (chk_of_lt hlt)).trans (by rw [hw])) (outRow_of (copyOf k) _ _ (k0_off2_eq k)) fo) $$ [Ho Ht HB]
  · isplitl [Ho]; · iexact Ho
    isplitl [Ht]; · iexact Ht
    iexact HB
  iintro ⟨HB, Hr⟩
  simp only [ret_then]
  sl_step
  isplitl [Hs]; · iexact Hs
  isplitl [HB]; · iexact HB
  isplitl [Hos]; · iexact Hos
  isplitl [Hts]; · iexact Hts
  isplitl [Hr]; · iexact Hr
  iexact Hrs

/-! ## The loop that waits for them -/

/-- Before trip `k` of the waiting loop: all 64 copies started, the units of `k` of them waited for, and the waits
    recorded all at the index that carries no debt. -/
def waitAt (O : CellTallies nD τ sig (HIx 1)) (W : Waits sig (HIx 1)) (k : ℕ) (_ : PUnit) : sProp 𝕄 :=
  iprop(Transfers.MayWaits (S d c) (none : HIx 1) O ∗ rowBatch d c ix tb 64 (k * rowCredit)
    ∗ ∃ W', ⌜∀ p ∈ W', p ∈ W ∨ p.2 = none⌝ ∗ owes (S d c) O W')

/-- One wait on the row copies' semaphore, by a memref of an output row: one copy's units of the batch. -/
theorem wp_await {src dst : Memref sig .scScalar .hbm S128 .f32} (t : Fin 64) (hd : dst = outRow t)
    {hsrc : src.view.WordExact} {hdst : dst.view.WordExact}
    {α : Type} {k : PUnit → Prog (TpuEff nD τ sig (Elt F) Λ₀ (.scScalar c)) α} {Q : α → sProp 𝕄} (u : ℕ) (hu : u + 1 * rowCredit ≤ rowCredit * 64)
    (O : CellTallies nD τ sig (HIx 1)) (W : Waits sig (HIx 1)) :
    iprop(rowBatch d c ix tb 64 u ∗ owes (S d c) O W ∗ MayWait (S d c) rowSem none O)
      ⊢ iprop((iprop(rowBatch d c ix tb 64 (u + 1 * rowCredit) ∗ owes (S d c) O (insert (rowSem, none) W)) -∗ wp frame (wpE (defs₀ (F := F)) 𝒱₀ (S d c) none) Set.univ (k ⟨⟩) Q)
        -∗ wp frame (wpE (defs₀ (F := F)) 𝒱₀ (S d c) none) Set.univ (.op (.waitDma2 cc0_scratch1.sem src dst hsrc hdst) k) Q) := by
  subst hd
  exact Transfers.wp_waitBatchMulO EC 𝒱₀ (S d c) none (srcw := src) (dstw := outRow t) none 1 (Nat.one_mul _).symm hu

/-- One trip of the waiting loop. -/
theorem wait_trip (L : grid0.Coords) (O : CellTallies nD τ sig (HIx 1)) (W : Waits sig (HIx 1)) (k : Fin k0_t2_loop.trips) (acc : PUnit) :
    waitAt d ((L 0).castLE hcore0) ix tb O W k.val acc
      ⊢ wp frame (wpE (defs₀ (F := F)) 𝒱₀ (S d ((L 0).castLE hcore0)) none) Set.univ
          (k0_t2_body L iW (Memref.isWhole_whole _) tW (Memref.isWhole_whole _) oW (Memref.isWhole_whole _) sW (Memref.isWhole_whole _) cc0_scratch1 cc0_scoped0 k acc)
          (waitAt d ((L 0).castLE hcore0) ix tb O W (k.val + 1)) := by
  have hk : k.val < 64 := trips_wait ▸ k.isLt
  unfold waitAt
  iintro ⟨#Hmw, HB, %W', %hW', HO⟩
  unfold k0_t2_body
  ihave Hm := (Transfers.MayWaits.elim rowSem) $$ Hmw
  iapply (wp_await d ((L 0).castLE hcore0) ix tb ⟨k.val, hk⟩ (outRow_of ⟨k.val, hk⟩ _ _ (k0_off4_eq k)) (k.val * rowCredit)
    (by have := Nat.mul_le_mul_right rowCredit (Nat.succ_le_of_lt hk); rw [Nat.succ_mul] at this; omega) O W') $$ [HB HO Hm]
  · isplitl [HB]; · iexact HB
    isplitl [HO] <;> iassumption
  iintro ⟨HB, HO⟩
  simp only [ret_then]
  sl_step
  isplitr; · iexact Hmw
  isplitl [HB]
  · rw [Nat.one_mul, Nat.succ_mul]; iexact HB
  iexists (insert (rowSem, (none : HIx 1)) W'); isplitr
  · ipureintro; intro p hp
    rcases Finset.mem_insert.mp hp with hp | hp
    · exact .inr (hp ▸ rfl)
    · exact hW' p hp
  · iexact HO

/-! ## Dealing the arrays out to the copies, and gathering them back -/

omit [FloatOps F] in
/-- The output held whole is its 64 rows. -/
theorem out_rows (f : S64x128.Idx → Elt F .f32) :
    (outLoc d ↦{fullShare} f : sProp 𝕄) = bigSep Finset.univ (rowPts d f) :=
  Ring.pointsTo_blocks (ℓ := outLoc d) outSet outSet_disjoint outSet_cover f

omit [FloatOps F] in
/-- The table held whole is 64 read shares and what is left of it. -/
theorem tab_toks :
    (tabLoc d ↦{fullShare} tb : sProp 𝕄)
      ⊣⊢ iprop((tabLoc d ↦{Transfers.shareDrop fullShare 64} tb) ∗ bigSep Finset.univ (tabTok d tb)) :=
  Transfers.pointsTo_toks fullShare 64

omit [FloatOps F] in
/-- Every delivery, with what the copies did not read of their shares, is the output gathered and the 64 read shares of
    the whole table. -/
theorem gather_back :
    iprop(bigSep Finset.univ (delivery d ix tb) ∗ bigSep Finset.univ (restTok d ix tb))
      ⊢ (iprop((outLoc d ↦{fullShare} gathered ix tb) ∗ bigSep Finset.univ (tabTok d tb)) : sProp 𝕄) := by
  have hjoin : iprop(bigSep Finset.univ (rowTok d ix tb) ∗ bigSep Finset.univ (restTok d ix tb)) ⊢ (bigSep Finset.univ (tabTok d tb) : sProp 𝕄) :=
    (Entails.of_eq (bigSep_sep Finset.univ (rowTok d ix tb) (restTok d ix tb)).symm).trans
      (bigSep_mono fun t _ => (pointsTo_split_subset (Finset.subset_univ (tabSet (srcRow ix t)))).2)
  rw [out_rows, show bigSep Finset.univ (delivery d ix tb)
      = iprop(bigSep Finset.univ (rowPts d (gathered ix tb)) ∗ bigSep Finset.univ (rowTok d ix tb)) from bigSep_sep _ _ _]
  iintro ⟨⟨Ho, Hrow⟩, Hrest⟩
  isplitl [Ho]; · iexact Ho
  iapply hjoin
  isplitl [Hrow] <;> iassumption

/-! ## The sequencer's own storage -/

abbrev idxCell : GSem nD τ sig := (S d c, .dma cc0_scoped0.sem)
abbrev rowCell : GSem nD τ sig := (S d c, rowSem)

omit [FloatOps F] in
/-- The kernel's two semaphores are among the sequencer's own. -/
theorem ownSems0_S :
    (ownSems0 (S d c) : sProp 𝕄)
      = iprop(semVal (idxCell d c) 0 ∗ semVal (rowCell d c) 0
          ∗ bigSep (((ownCells (S d c)).erase (idxCell d c)).erase (rowCell d c)) fun g => semVal g 0) := by
  unfold SparseCore.Cfg.ownSems0
  rw [SparseCore.bigSep_erase' ((mem_ownCells (g := idxCell d c)).mpr ⟨rfl, by
      show (SemLoc.dma cc0_scoped0.sem : SemLoc sig).isScoped .scScalar = true; decide⟩),
    SparseCore.bigSep_erase' (Finset.mem_erase.mpr ⟨by simp [idxCell, rowCell]; decide, (mem_ownCells (g := rowCell d c)).mpr ⟨rfl, by
      show (SemLoc.dma cc0_scratch1.sem : SemLoc sig).isScoped .scScalar = true; decide⟩⟩)]

omit [FloatOps F] in
/-- The scalar memory the kernel uses is among the sequencer's own buffers. -/
theorem ownBufs_S :
    (ownBufs (S d c) : sProp 𝕄)
      = iprop((∃ f, (S d c).loc cc0_scratch0 ↦{fullShare} f)
          ∗ bigSep ((ownRefs (τ := τ) (.scScalar c)).erase ((Proc.scScalar c).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scScalar c) (b := (Proc.scScalar c).devRef cc0_scratch0) rfl)

omit [FloatOps F] in
/-- The scratch buffer and the index words as the sequencer's memrefs address them. -/
theorem pts_s (f : S64.Idx → Elt F .i32) : (smemPts d c f : sProp 𝕄) = (S d c).loc cc0_scratch0 ↦{fullShare} f := rfl
omit [FloatOps F] in
theorem pts_i (f : S64.Idx → Elt F .i32) : ((iW).view.loc (S d c) ↦{fullShare} f : sProp 𝕄) = idxLoc d ↦{fullShare} f := rfl

/-! ## The whole body -/

/-- What the call hands the sequencer: the index words, the table, and the output holding anything. -/
abbrev before : sProp 𝕄 := iprop((idxLoc d ↦{fullShare} ix) ∗ (tabLoc d ↦{fullShare} tb) ∗ ∃ f, outLoc d ↦{fullShare} f)
/-- What it hands back: the same with the output gathered. -/
abbrev after : sProp 𝕄 := iprop((idxLoc d ↦{fullShare} ix) ∗ (tabLoc d ↦{fullShare} tb) ∗ outLoc d ↦{fullShare} gathered ix tb)

/-- The kernel on one sequencer, for index words in range: it returns with the output gathered, its scalar memory and
    semaphores as they were lent, and waits recorded only at the index that carries no debt. -/
theorem body (L : grid0.Coords) (hr : InRange ix) (O : CellTallies nD τ sig (HIx 1)) (W : Waits sig (HIx 1)) (hO : ∀ g, O g none = 0) :
    iprop(levAts (K (F := F)).L (K (F := F)).lev ∗ emp ∗ before d ix tb
        ∗ scopedBufs (S d ((L 0).castLE hcore0)) ∗ scopedSems0 (S d ((L 0).castLE hcore0)) ∗ owes (S d ((L 0).castLE hcore0)) O W)
      ⊢ wp frame (wpE (defs₀ (F := F)) 𝒱₀ (S d ((L 0).castLE hcore0)) none) Set.univ
          (cc0__gather_kernel L iW (Memref.isWhole_whole _) tW (Memref.isWhole_whole _) oW (Memref.isWhole_whole _) sW (Memref.isWhole_whole _) cc0_scratch1 cc0_scoped0)
          fun _ => iprop(after d ix tb ∗ scopedBufs (S d ((L 0).castLE hcore0)) ∗ scopedSems0 (S d ((L 0).castLE hcore0))
            ∗ ∃ W', ⌜∀ p ∈ W', p ∈ W ∨ p.2 = none⌝ ∗ owes (S d ((L 0).castLE hcore0)) O W') := by
  simp only [cc0__gather_kernel_eq_skeleton]; unfold cc0__gather_kernel_skel
  rw [(K (F := F)).scopedBufs_S facts d ((L 0).castLE hcore0), SparseCore.Cfg.scopedSems0_S (Val := Elt F) d ((L 0).castLE hcore0), ownSems0_S, ownBufs_S]
  iintro ⟨#Hlv, -, ⟨Hi, Ht, %fo, Ho⟩, ⟨⟨⟨%fs, Hs⟩, Hbufs⟩, Hvb⟩, ⟨⟨HsI, HsR, Hsems⟩, Hvs⟩, HO⟩
  ihave Hmw := (show levAts (K (F := F)).L (K (F := F)).lev ⊢ Transfers.MayWaits (S d ((L 0).castLE hcore0)) (default : HIx 1) O from
    (K (F := F)).mayWaits_none (thr := S d ((L 0).castLE hcore0)) hO) $$ Hlv
  ihave Hi' := (Entails.of_eq (pts_i (F := F) d ((L 0).castLE hcore0) ix).symm) $$ Hi
  ihave Hs' := (Entails.of_eq (pts_s (F := F) d ((L 0).castLE hcore0) fs).symm) $$ Hs
  sl_exec
  -- the index words are in scalar memory
  have hdma : (sW).view.write (Elt F) fs (body.sl.dma0 ix) Finset.univ = ix := View.write_whole_univ _ _ _
  rw [hdma]
  -- the batch, and the arrays dealt out to its copies
  imod (Transfers.batch_alloc' (Lvl := ℕ) EC (S d ((L 0).castLE hcore0)) (none : HIx 1) rowCredit (delivery d ix tb) (sm := rowSem) (E := Set.univ)) $$ HsR with HB
  ihave Ho' := (Entails.of_eq (out_rows d fo)) $$ Ho
  ihave Ht' := (tab_toks d tb).1 $$ Ht
  icases Ht' with ⟨Hleft, Htoks⟩
  sl_for (startAt d ((L 0).castLE hcore0) ix tb fo) $$ [Hs' HB Ho' Htoks]
  case region => exact fun k acc => start_trip d ix tb L hr fo k acc
  · unfold startAt
    rw [Ring.rangeSet_univ, Ring.bigSep_rangeSet_empty (le_refl 0)]
    isplitl [Hs']; · iexact Hs'
    isplitl [HB]; · iexact HB
    isplitl [Ho']; · iexact Ho'
    isplitl [Htoks]; · iexact Htoks
    iempintro
  iintro %_ HI
  unfold startAt
  rw [show Scf.trips k0_t1_loop.lb k0_t1_loop.ub k0_t1_loop.st = 64 from trips_start, Ring.rangeSet_univ]
  icases HI with ⟨Hs, HB, -, -, Hrest⟩
  sl_for (waitAt d ((L 0).castLE hcore0) ix tb O W) $$ [Hmw HB HO]
  case region => exact fun k acc => wait_trip d ix tb L O W k acc
  · unfold waitAt
    isplitl [Hmw]; · iexact Hmw
    isplitl [HB]; · rw [Nat.zero_mul]; iexact HB
    iexists (insert (SemLoc.dma cc0_scoped0.sem, (default : HIx 1)) W); isplitr
    · ipureintro; intro p hp
      rcases Finset.mem_insert.mp hp with hp | hp
      · exact .inr (hp ▸ rfl)
      · exact .inl hp
    · iexact HO
  iintro %_ HI
  unfold waitAt
  rw [show Scf.trips k0_t2_loop.lb k0_t2_loop.ub k0_t2_loop.st = 64 from trips_wait, Nat.mul_comm 64 rowCredit]
  icases HI with ⟨-, HB, %W', %hW', HO⟩
  -- every unit is waited for: the batch gives its deliveries back
  imod (Transfers.batch_collect' EC (S d ((L 0).castLE hcore0)) rowCredit_pos) $$ HB with ⟨HD, HsR⟩
  ihave HG := (gather_back d ix tb) $$ [HD Hrest]
  · isplitl [HD] <;> iassumption
  icases HG with ⟨Ho, Htoks⟩
  ihave Ht := (tab_toks d tb).2 $$ [Hleft Htoks]
  · isplitl [Hleft] <;> iassumption
  sl_step
  isplitl [Hi' Ht Ho]
  · isplitl [Hi']; · iapply (Entails.of_eq (pts_i (F := F) d ((L 0).castLE hcore0) ix)); iexact Hi'
    isplitl [Ht] <;> iassumption
  isplitl [Hs Hbufs Hvb]
  · isplitl [Hs Hbufs]
    · isplitl [Hs]
      · iexists _; iapply (Entails.of_eq (pts_s (F := F) d ((L 0).castLE hcore0) ix)); iexact Hs
      · iexact Hbufs
    · iexact Hvb
  isplitl [HsI HsR Hsems Hvs]
  · isplitl [HsI HsR Hsems]
    · isplitl [HsI]; · iexact HsI
      isplitl [HsR] <;> iassumption
    · iexact Hvs
  iexists W'; isplitr
  · ipureintro; exact hW'
  · iexact HO

end Copies

end Cert.Proof.Gather

end
-- ==== Proof.Launch.lean ====
/-
  The whole program's run.

  The host flattens the 8 by 8 index array to 64 words and then calls the kernel on one SparseCore. This module gives the
  launch its payloads (the flat words, the table and the output, handed over and handed back gathered), proves the
  program on the TensorCore, and concludes `run_main`: for any float values and index words in range, every weakly fair
  execution terminates with the output gathered, both arguments unchanged and every semaphore counter at zero.
-/
module

public import proofs.«01_k».proof.Proof.Body

@[expose] public section

noncomputable section

namespace Cert.Proof.Gather

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

local notation "iW" => (Memref.whole Cert.KernelIdeal.main_v0_scs : Memref Cert.KernelIdeal.sig Kind.scScalar Space.hbm Cert.KernelIdeal.S64 EltTy.i32)
local notation "tW" => (Memref.whole Cert.KernelIdeal.main_arg1_scs : Memref Cert.KernelIdeal.sig Kind.scScalar Space.hbm Cert.KernelIdeal.S13x128 EltTy.f32)
local notation "oW" => (Memref.whole Cert.KernelIdeal.main_v1_scs : Memref Cert.KernelIdeal.sig Kind.scScalar Space.hbm Cert.KernelIdeal.S64x128 EltTy.f32)
local notation "sW" => (Memref.whole Cert.KernelIdeal.cc0_scratch0 : Memref Cert.KernelIdeal.sig Kind.scScalar Space.smem Cert.KernelIdeal.S64 EltTy.i32)

/-! ## The launch memory -/

variable (m : (ℓ : Loc nD τ sig) → Buf (Elt F) ℓ) (ρ : Dev nD → PrngReg)

abbrev argLoc (d : Dev nD) : Loc nD τ sig := (SparseCore.T d).loc main_arg0

/-- An 8 by 8 index array laid out flat, row after row. -/
def flat (ids : S8x8.Idx → Elt F .i32) : S64.Idx → Elt F .i32 := shapeCast S64 ids shapeCasts_S8x8_S64

/-- The index words and the table device `d`'s kernel works on. -/
abbrev ixOf (d : Dev nD) : S64.Idx → Elt F .i32 := flat (m (argLoc d))
abbrev tbOf (d : Dev nD) : S13x128.Idx → Elt F .f32 := m (tabLoc d)

variable [FloatOps F]

/-- What the call hands the sequencer and takes back; nothing of the launch is consumed otherwise. -/
def P : (K (F := F)).Pay (nD := nD) (Val := Elt F) (Name := ℕ) (U := UU) where
  st := fun _ d _ => before d (ixOf m d) (tbOf m d)
  dn := fun _ d _ => after d (ixOf m d) (tbOf m d)
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The launch theorem's obligation -/

/-- The coordinates of the one SparseCore of the kernel's grid. -/
def coordsS (c : Fin (grid0.bound 0)) : grid0.Coords := fun | 0 => c | ⟨_ + 1, h⟩ => absurd h (Nat.not_lt.2 (Nat.le_add_left _ _))

theorem defs₀_scalar (c : Fin τ.nSC) :
    defs₀ (F := F) (.scScalar c) 0 ()
      = SparseCore.onCore hcore0 (fun c => cc0__gather_kernel (coordsS c) iW (Memref.isWhole_whole _) tW (Memref.isWhole_whole _) oW (Memref.isWhole_whole _) sW (Memref.isWhole_whole _) cc0_scratch1 cc0_scoped0) ⟨⟩ c := rfl

omit [FloatOps F] in
/-- Waits recorded at the debt-free index alone are within what the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The sequencer's part of the call is `body`. -/
theorem scalarObl (hr : ∀ d, InRange (ixOf m d)) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact (body d (ixOf m d) (tbOf m d) (coordsS ⟨((K (F := F)).core 0 c).val, hc⟩) (hr d) O W hO).trans (wp_mono frame _ _ fun _ => obl_post)

/-! ## The launch element: the handshakes' rounds and nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The program on the TensorCore -/

abbrev a' : DevRef τ sig := Proc.devRef .tc (main_arg0 : Ref sig .tc)
abbrev t' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev opFlat : HloOp τ sig (Elt F) := StableHlo.reshape main_arg0 main_v0 (rfl : (.i32 : EltTy) = .i32) shapeCasts_S8x8_S64

/-- The TensorCore's arrays: the index array, the table, the flat words, the output. -/
abbrev S4 : Finset (DevRef τ sig) := {a', t', i', o'}

omit [FloatOps F] in
theorem held_S4 (d : Dev nD) (W : Valuation τ sig (Elt F)) :
    (held (T d) S4 W : sProp 𝕄) = iprop((argLoc d ↦{fullShare} W a') ∗ (tabLoc d ↦{fullShare} W t') ∗ (idxLoc d ↦{fullShare} W i') ∗ outLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((argLoc d ↦{fullShare} W main_arg0) ∗ (tabLoc d ↦{fullShare} W main_arg1) ∗ (idxLoc d ↦{fullShare} W main_v0) ∗ outLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch contents of device `d`'s arrays. -/
def V0 (d : Dev nD) : Valuation τ sig (Elt F) := fun b => m (d, b)

omit [FloatOps F] in
theorem unscoped_held (d : Dev nD) : (unscopedBufs d (fun b => m ((SparseCore.T d).loc b)) : sProp 𝕄) = held (T d) S4 (V0 m d) := by
  rw [unscopedBufs_eq, held_S4]; rfl

omit [FloatOps F] in
/-- After the flattening the arrays are as launched, but for the flat words. -/
theorem held_flat (d : Dev nD) :
    (held (T d) S4 ((opFlat (F := F)).result (V0 m d)) : sProp 𝕄)
      = iprop((argLoc d ↦{fullShare} m (argLoc d)) ∗ (tabLoc d ↦{fullShare} tbOf m d) ∗ (idxLoc d ↦{fullShare} ixOf m d) ∗ outLoc d ↦{fullShare} m (outLoc d)) := by
  rw [held_S4, (opFlat (F := F)).result_of_not_mem (V0 m d) (b := a') (show a' ∉ ({i'} : Finset (DevRef τ sig)) by decide),
    (opFlat (F := F)).result_of_not_mem (V0 m d) (b := t') (show t' ∉ ({i'} : Finset (DevRef τ sig)) by decide),
    (opFlat (F := F)).result_of_not_mem (V0 m d) (b := o') (show o' ∉ ({i'} : Finset (DevRef τ sig)) by decide),
    show (opFlat (F := F)).result (V0 m d) i' = ixOf m d from StableHlo.reshape_result _ _ _ _ _ _ _]
  rfl

theorem st0_eq (d : Dev nD) : (bigSep Finset.univ fun c : Fin ((K (F := F)).nCore 0) => (P m).st 0 d c) = before d (ixOf m d) (tbOf m d) :=
  bigSep_univ_of_subsingleton (0 : Fin 1)
theorem dn0_eq (d : Dev nD) : (bigSep Finset.univ fun c : Fin ((K (F := F)).nCore 0) => (P m).dn 0 d c) = after d (ixOf m d) (tbOf m d) :=
  bigSep_univ_of_subsingleton (0 : Fin 1)

theorem hFlat : (opFlat (F := F)).bufs ⊆ S4 := show ({a', i'} : Finset (DevRef τ sig)) ⊆ S4 by decide

/-- What the program leaves: both arguments at their launch contents, the output gathered. -/
abbrev FIN (d : Dev nD) : sProp 𝕄 :=
  iprop((argLoc d ↦{fullShare} m (argLoc d)) ∗ (tabLoc d ↦{fullShare} tbOf m d) ∗ outLoc d ↦{fullShare} gathered (ixOf m d) (tbOf m d))

/-- The program on device `d`'s TensorCore: the flattening, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := S4) hFlat (V := V0 m d)) $$ [Hb Hheld]
  · isplitl [Hb] <;> iassumption
  iintro ⟨Hb, Hheld⟩
  rw [wp_ret]; imodintro
  ihave Hh := (Entails.of_eq (held_flat (F := F) m d)) $$ Hheld
  icases Hh with ⟨Ha, Ht, Hi, Ho⟩
  iapply ((K (F := F)).wp_run (D (F := F)) 𝒱 (EH := EH) (P := P m) κ d 0) $$ [Hst Ha Ht Hi Ho Hb Hts]
  isplitr; · iexact Hctx
  isplitl [Hst]; · iexact Hst
  isplitl [Ht Hi Ho]
  · rw [st0_eq]
    isplitl [Hi]; · iexact Hi
    isplitl [Ht]; · iexact Ht
    iexists _; iexact Ho
  iintro ⟨Hst, Hdn⟩
  ihave Hdn' := (Entails.of_eq (dn0_eq m d)) $$ Hdn
  icases Hdn' with ⟨-, Ht, Ho⟩
  imodintro
  isplitl [Hst]; · iexact Hst
  isplitr [Hb Hts]
  · isplitl [Ha]; · iexact Ha
    isplitl [Ht] <;> iassumption
  isplitl [Hb] <;> iassumption

/-- What the claims read of device `d`'s final state. -/
def fq (d : Dev nD) (s' : Phys nD τ sig (Elt F)) : Prop :=
  s'.mem.mem (outLoc d) = gathered (ixOf m d) (tbOf m d) ∧ s'.mem.mem (argLoc d) = m (argLoc d) ∧ s'.mem.mem (tabLoc d) = m (tabLoc d)

theorem hfin (d : Dev nD) (s' : Phys nD τ sig (Elt F)) : iprop(FIN m d ∗ SI s') ⊢ (⌜fq m d s'⌝ : sProp 𝕄) := by
  iintro ⟨⟨Ha, Ht, Ho⟩, HSI⟩
  ihave H := (persistent_entails_right (SI_pointsTo_agree (st := s') (ℓ := argLoc d) (I := Finset.univ) (q := fullShare) (f := m (argLoc d)))) $$ [HSI Ha]
  · isplitl [HSI] <;> iassumption
  icases H with ⟨%ha, HSI, -⟩
  ihave H := (persistent_entails_right (SI_pointsTo_agree (st := s') (ℓ := tabLoc d) (I := Finset.univ) (q := fullShare) (f := m (tabLoc d)))) $$ [HSI Ht]
  · isplitl [HSI] <;> iassumption
  icases H with ⟨%ht, HSI, -⟩
  ihave H := (SI_pointsTo_agree (st := s') (ℓ := outLoc d) (I := Finset.univ) (q := fullShare) (f := gathered (ixOf m d) (tbOf m d))) $$ [HSI Ho]
  · isplitl [HSI] <;> iassumption
  icases H with %ho
  ipureintro
  exact ⟨funext fun i => ho i (Finset.mem_univ i), funext fun i => ha i (Finset.mem_univ i), funext fun i => ht i (Finset.mem_univ i)⟩

/-! ## The program's run -/

/-- The final states: the output gathered, both arguments unchanged, every semaphore counter at zero. -/
def QC : PUnit × MemSt nD τ sig (Elt F) → Prop := fun r =>
  (∀ d : Dev nD, r.2.mem (outLoc d) = gathered (ixOf m d) (tbOf m d) ∧ r.2.mem (argLoc d) = m (argLoc d) ∧ r.2.mem (tabLoc d) = m (tabLoc d))
    ∧ r.2.sem = fun _ => 0

/-- For index words in range, every weakly fair execution of the program terminates in such a state. -/
theorem run_main [∀ e, Nonempty (Elt F e)] (hr : ∀ d, InRange (ixOf m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m hr)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.RefValue.lean ====
/-
  What the reference computes, and what the precondition says.

  The reference takes table rows by index: it wraps negative words, gathers at the wrapped words, masks the rows whose
  word is outside the table with a fill value, and flattens the result to 64 rows. The precondition says that every word
  of the 8 by 8 index array is at least 0 and below 13. This module reads the precondition back as a bound on each word
  and shows that, under that bound, the reference's array is `gathered`, the array the kernel leaves: no word is
  wrapped, no row is masked, and both flattenings send row `(a, b)` to row `8 a + b`.
-/
module

public import proofs.«01_k».proof.ReferenceIdeal
public import proofs.«01_k».proof.Pre_in_range
public import proofs.«01_k».proof.Proof.Gen.ReferenceIdeal
public import proofs.«01_k».proof.Proof.Gen.Pre_in_range
public import proofs.«01_k».proof.Proof.Launch
public import Idealize.ShloMosaic.Lib.Pipeline.Value
public import Idealize.ShloMosaic.Lib.ReduceAll
public import Idealize.ShloMosaic.Lib.StableHlo.Predicate

@[expose] public section

noncomputable section

namespace Cert.Proof.Gather

open Cert.ReferenceIdeal Cert.ReferenceIdeal.Gen
open Idealize.ShloMosaic Idealize.ShloMosaic.ValueIdx

variable {F : FTy → Type}

/-! ## Index words in range -/

/-- Every word of the 8 by 8 index array names a row of the 13-row table. -/
def IdsInRange (ids : S8x8.Idx → BitVec 32) : Prop := ∀ i, (ids i).toNat < 13

/-- A word that is at least 0 and below 13 as a signed number is below 13 as an unsigned one. -/
theorem lt_of_signed {w : BitVec 32} (h0 : IntOp.cmpi .sge w 0#32 = 1#1) (h1 : IntOp.cmpi .slt w 13#32 = 1#1) : w.toNat < 13 := by
  rw [IntOp.cmpi_sge] at h0
  rw [IntOp.cmpi_slt] at h1
  simp only [BitVec.toInt_eq_toNat_cond, BitVec.toNat_ofNat, Nat.reducePow, Nat.reduceMod] at h0 h1
  omega

/-- The precondition's one bit being set says that every index word is in range. -/
theorem ids_of_pre [FloatOps F] (ids : S8x8.Idx → BitVec 32) (tb : S13x128.Idx → F .f32)
    (h : Cert.Pre_in_range.fn (F := F) ids tb = fun _ => 1#1) : IdsInRange ids := fun i => by
  haveI : Subsingleton Cert.Pre_in_range.S_.Idx := ⟨fun a b => funext fun k => k.elim0⟩
  have hall := Host.reduce_andi_all _ _ _ _ (Shape.Idx.first Cert.Pre_in_range.Gen.h_S_) (congrFun h _) i
  obtain ⟨h0, h1⟩ := IntOp.andi_eq_one.1 hall
  exact lt_of_signed h0 h1

/-- Flattening moves words and makes none: words in range stay in range. -/
theorem flat_inRange {ids : S8x8.Idx → BitVec 32} (h : IdsInRange ids) : InRange (F := F) (flat (F := F) ids) := fun _ => h _

/-! ## The reference's array, part by part -/

/-- The index words with 13 added to the negative ones, as the reference wraps them. -/
def wrapped (ids : S8x8.Idx → BitVec 32) : S8x8.Idx → BitVec 32 :=
  select (cmpi .slt ids (broadcastInDim S8x8 ![] bcast_S_S8x8 (constantI S_ 32 0#32)))
    (addi ids (broadcastInDim S8x8 ![] bcast_S_S8x8 (constantI S_ 32 13#32))) ids

/-- The wrapped words with a trailing axis of one, the gather's start indices. -/
def starts (ids : S8x8.Idx → BitVec 32) : S8x8x1.Idx → BitVec 32 :=
  broadcastInDim S8x8x1 ![0, 1] bcast_S8x8_S8x8x1_0_1 (wrapped ids)

/-- Which rows' start indices are inside the table: one bit per row, the conjunction over the trailing axis. -/
def inside (ids : S8x8.Idx → BitVec 32) : S8x8.Idx → BitVec 1 :=
  Host.reduce IntOp.andi
    (andi (cmpi .sge (starts ids) (broadcastInDim S8x8x1 ![] bcast_S_S8x8x1 (constantI S_ 32 0#32)))
      (cmpi .sle (starts ids) (broadcastInDim S8x8x1 ![0, 1, 2] bcast_S1x1x1_S8x8x1_0_1_2
        (broadcastInDim S1x1x1 ![2] bcast_S1_S1x1x1_2 (constantI S1 32 12#32)))))
    (constantI S_ 1 1#1) reducesTo_S8x8x1_S8x8_d2 h_S_

/-- The reference's array: the gathered rows where the row's word is inside the table, the fill value elsewhere,
    flattened to 64 rows. -/
def refArray [FloatOps F] (ids : S8x8.Idx → BitVec 32) (tb : S13x128.Idx → F .f32) : S64x128.Idx → F .f32 :=
  shapeCast S64x128
    (select (broadcastInDim S8x8x128 ![0, 1] bcast_S8x8_S8x8x128_0_1 (inside ids))
      (Host.gather gather_S13x128_S8x8x1_S8x8x128_2_0_n_n_0_2_1128 tb (starts ids))
      (broadcastInDim S8x8x128 ![] bcast_S_S8x8x128 (constant S_ .f32 0x7FC00000#32)))
    shapeCasts_S8x8x128_S64x128

/-- A word in range is not negative, so it is not wrapped. -/
theorem wrapped_eq {ids : S8x8.Idx → BitVec 32} (h : IdsInRange ids) : wrapped ids = ids := funext fun i => by
  have hi := h i
  have h0 : IntOp.cmpi .slt (ids i) 0#32 = 0#1 := eq_zero_of_ne_one fun e => by
    have := (StableHlo.Predicate.slt_iff_toNat (by omega) (by decide)).1 e
    exact absurd this (Nat.not_lt_zero _)
  show Scalar.select (IntOp.cmpi .slt (ids i) 0#32) _ (ids i) = ids i
  rw [h0]; rfl

/-- The start index of row `(a, b)` is the word at `(a, b)`. -/
theorem starts_apply {ids : S8x8.Idx → BitVec 32} (h : IdsInRange ids) (j : S8x8x1.Idx) : starts ids j = ids (ix2 (j 0) (j 1)) := by
  unfold starts
  rw [wrapped_eq h]
  refine broadcastInDim_apply _ _ _ _ _ fun a => ?_
  match a with
  | ⟨0, _⟩ => rfl
  | ⟨1, _⟩ => rfl

/-- Every row's start index is inside the table. -/
theorem inside_eq {ids : S8x8.Idx → BitVec 32} (h : IdsInRange ids) (i : S8x8.Idx) : inside ids i = 1#1 := by
  refine Host.reduce_andi_one _ _ _ _ _ rfl fun j => ?_
  have hw := h (ix2 (j 0) (j 1))
  refine IntOp.andi_eq_one.2 ⟨?_, ?_⟩
  · show IntOp.cmpi .sge (starts ids j) 0#32 = 1#1
    rw [starts_apply h]
    exact (StableHlo.Predicate.sge_iff_toNat (by omega) (by decide)).2 (Nat.zero_le _)
  · show IntOp.cmpi .sle (starts ids j) 12#32 = 1#1
    rw [starts_apply h]
    exact (StableHlo.Predicate.sle_iff_toNat (by omega) (by decide)).2 (by show _ ≤ 12; omega)

/-! ## The gather of whole rows -/

/-- The reference's gather, read at `(a, b, l)` where the start index at `(a, b)` is below 13: lane `l` of the table row
    the start index names. -/
theorem gather_rows {α : Type} (tb : S13x128.Idx → α) (st : S8x8x1.Idx → BitVec 32) (a b : Fin 8) (l : Fin 128)
    (h : (st (ix3 a b (0 : Fin 1))).toNat < 13) :
    Host.gather gather_S13x128_S8x8x1_S8x8x128_2_0_n_n_0_2_1128 tb st (ix3 a b l) = tb (ix2 (rowOf (st (ix3 a b (0 : Fin 1)))) l) := by
  let D := gather_S13x128_S8x8x1_S8x8x128_2_0_n_n_0_2_1128
  have hsi : ∀ k, D.siIdx (ix3 a b l) k = ix3 a b (0 : Fin 1) := fun k => funext fun c => by
    match c with
    | ⟨0, _⟩ => rfl
    | ⟨1, _⟩ => rfl
    | ⟨2, _⟩ => exact Subsingleton.elim (α := Fin 1) _ _
  unfold Host.gather
  refine congrArg tb (funext fun c => Fin.ext ?_)
  match c with
  | ⟨0, _⟩ =>
    show D.start (ix3 a b l) st 0 + D.batchCoord (ix3 a b l) 0 + D.offCoord (ix3 a b l) 0 = (rowOf (st (ix3 a b (0 : Fin 1)))).val
    rw [D.batchCoord_eq_zero _ _ List.not_mem_nil, D.offCoord_eq_zero _ _ fun hk => ((D.mem_sKept _).1 hk).1 (List.mem_singleton.2 rfl),
      rowOf_val h]
    unfold GatherDims.start
    rw [dif_pos (show (0 : Fin 2) ∈ D.startIndexMap from List.mem_singleton.2 rfl), hsi,
      StableHlo.Predicate.toInt_eq_toNat_of_lt (Nat.lt_of_lt_of_le h (by decide))]
    show min (Int.toNat ((st (ix3 a b (0 : Fin 1))).toNat : Int)) 12 + 0 + 0 = _
    omega
  | ⟨1, _⟩ =>
    show D.start (ix3 a b l) st 1 + D.batchCoord (ix3 a b l) 1 + D.offCoord (ix3 a b l) 1 = l.val
    rw [D.batchCoord_eq_zero _ _ List.not_mem_nil]
    unfold GatherDims.start
    rw [dif_neg (show (1 : Fin 2) ∉ D.startIndexMap by decide)]
    simp only [Nat.zero_add]
    rfl

/-! ## The reference's array is the kernel's -/

/-- Row `t` of 64 is row `(t / 8, t % 8)` of 8 by 8. -/
abbrev hi (t : Fin 64) : Fin 8 := ⟨t.val / 8, by have := t.isLt; omega⟩
abbrev lo (t : Fin 64) : Fin 8 := ⟨t.val % 8, by have := t.isLt; omega⟩

/-- Word `t` of the flat list is the word at `(t / 8, t % 8)`. -/
theorem flat_apply (ids : S8x8.Idx → BitVec 32) (t : Fin 64) : flat (F := F) ids (ix1 t) = ids (ix2 (hi t) (lo t)) := by
  refine shapeCast_apply _ _ _ _ ?_
  rw [Shape.rowMajor_val_two, Shape.rowMajor_val_one]
  show t.val / 8 * 8 + t.val % 8 = t.val
  omega

/-- For words in range, row `t` of the reference's array is the table row named by the `t`-th word. -/
theorem refArray_row [FloatOps F] {ids : S8x8.Idx → BitVec 32} (h : IdsInRange ids) (tb : S13x128.Idx → F .f32) (t : Fin 64) (l : Fin 128) :
    refArray ids tb (ix2 t l) = tb (ix2 (rowOf (ids (ix2 (hi t) (lo t)))) l) := by
  have hs : starts ids (ix3 (hi t) (lo t) (0 : Fin 1)) = ids (ix2 (hi t) (lo t)) := starts_apply h _
  have hm : broadcastInDim S8x8x128 ![0, 1] bcast_S8x8_S8x8x128_0_1 (inside ids) (ix3 (hi t) (lo t) l) = 1#1 := inside_eq h _
  refine (shapeCast_apply _ _ _ (ix3 (hi t) (lo t) l) ?_).trans ?_
  · rw [Shape.rowMajor_val_three, Shape.rowMajor_val_two]
    show (t.val / 8 * 8 + t.val % 8) * 128 + l.val = t.val * 128 + l.val
    omega
  · rw [select_apply, hm, select_one, gather_rows _ _ _ _ _ (by rw [hs]; exact h _), hs]

/-- For words in range the reference's array is the array the kernel leaves. -/
theorem refArray_eq [FloatOps F] {ids : S8x8.Idx → BitVec 32} (h : IdsInRange ids) (tb : S13x128.Idx → F .f32) :
    refArray ids tb = gathered (F := F) (flat (F := F) ids) tb := funext fun y => by
  have hy : y = ix2 (y 0) (y 1) := funext fun a => by
    match a with
    | ⟨0, _⟩ => rfl
    | ⟨1, _⟩ => rfl
  rw [hy]
  refine (refArray_row h tb _ _).trans ?_
  unfold gathered
  exact congrArg (fun w => tb (ix2 (rowOf w) (y 1))) (flat_apply ids (y 0)).symm

end Cert.Proof.Gather

end
-- ==== Proof.lean ====
/-
  The proof of `Cert.Claim` (proofs.«01_k».proof.Defs).

  The kernel gathers 64 rows of a 13 by 128 table by an 8 by 8 array of index words, each word at least 0 and below 13.
  The pieces: Proof/Rows.lean names the rows and the gathered array; Proof/Body.lean runs the kernel's two loops;
  Proof/Launch.lean runs the whole program, for any float values (`run_main`); Proof/RefValue.lean reads the precondition
  back and shows that the reference's array is the gathered one. Here `gather_run` and `same_values` join them, still for
  any float values, and each claim is one of the two at its own float values: the kernel and its idealization are one
  text, as are the reference and its idealization, so nothing is run twice.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_in_range
public import proofs.«01_k».proof.Proof.Gen.ReferenceIdeal.Run
public import proofs.«01_k».proof.Proof.Gen.Reference.Run
public import proofs.«01_k».proof.Proof.Launch
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.SL.Sem
open Cert.Proof.Gather (QC run_main ids_of_pre flat_inRange refArray_eq gathered ixOf tbOf)

/-! ## The two runs, for any float values -/

section AnyFloats

variable {F : FTy → Type} [FloatOps F] [∀ e, Nonempty (Elt F e)]

/-- The precondition on the kernel's arguments, for any float values: `in_range` of the two arrays is set. -/
def PreAt (m : (ℓ : Loc Cert.KernelIdeal.nD Cert.KernelIdeal.τ Cert.KernelIdeal.sig) → Buf (Elt F) ℓ) : Prop :=
  ∀ c : Dev Cert.KernelIdeal.nD,
    Cert.Pre_in_range.fn (F := F) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1

/-- Under the precondition every weakly fair execution of the kernel's program terminates with the output gathered, both
    arguments unchanged and every semaphore counter at zero. -/
theorem gather_run (m : (ℓ : Loc Cert.KernelIdeal.nD Cert.KernelIdeal.τ Cert.KernelIdeal.sig) → Buf (Elt F) ℓ)
    (ρ : Dev Cert.KernelIdeal.nD → PrngReg) (h : PreAt m) :
    θ_run (Cert.KernelIdeal.defs (F := F)) (Cert.KernelIdeal.threads (F := F)) ⟨m, fun _ => 0, ρ⟩ (QC m) :=
  run_main m ρ fun d => flat_inRange (ids_of_pre _ _ (h d))

/-- Under the precondition, from memories that agree on the two arguments, the kernel's program and the reference both
    run, end with the same output on every device, and leave their arguments unchanged. -/
theorem same_values (m : (ℓ : Loc Cert.KernelIdeal.nD Cert.KernelIdeal.τ Cert.KernelIdeal.sig) → Buf (Elt F) ℓ)
    (ρ : Dev Cert.KernelIdeal.nD → PrngReg)
    (m' : (ℓ : Loc Cert.ReferenceIdeal.nD Cert.ReferenceIdeal.τ Cert.ReferenceIdeal.sig) → Buf (Elt F) ℓ)
    (ρ' : Dev Cert.ReferenceIdeal.nD → PrngReg) (h : PreAt m)
    (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    ∃ (v0 : (c : Dev Cert.KernelIdeal.nD) → Buf (Elt F) ((c.tc : Thread Cert.KernelIdeal.nD Cert.KernelIdeal.τ).loc Cert.KernelIdeal.main_v1)),
      θ_run (Cert.KernelIdeal.defs (F := F)) (Cert.KernelIdeal.threads (F := F)) ⟨m, fun _ => 0, ρ⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := F)) (onTc (τ := Cert.ReferenceIdeal.τ) (Cert.ReferenceIdeal.main (F := F))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) := by
  refine ⟨fun c => gathered (ixOf m c) (tbOf m c), (θ_run _ _ _).mono (fun _ hr => hr.1) (gather_run m ρ h),
    (θ_run _ _ _).mono (fun r hr c => ⟨(hr c).1.trans ?_, (hr c).2⟩) (Cert.ReferenceIdeal.Value.run m' ρ')⟩
  rw [(hag c).1, (hag c).2]
  exact refArray_eq (ids_of_pre _ _ (h c)) _

end AnyFloats

/-! ## The frames -/

/-- The kernel at machine floats runs, leaves its arguments unchanged and its counters at zero. -/
theorem frame_kernel : Cert.quiescent_Kernel := fun m ρ h =>
  (θ_run Cert.KernelIdeal.defs _ _).mono (fun _ hr => ⟨fun c => (hr.1 c).2, hr.2⟩) (gather_run (F := Bits) m ρ h)

/-- The kernel at ideal floats runs, leaves its arguments unchanged and its counters at zero. -/
theorem frame_kernel_ideal : Cert.quiescent_KernelIdeal := fun m ρ h =>
  (θ_run Cert.KernelIdeal.defs _ _).mono (fun _ hr => ⟨fun c => (hr.1 c).2, hr.2⟩) (gather_run (F := Ideal) m ρ h)

/-- The reference at ideal floats runs from every memory and leaves its arguments unchanged; it declares no semaphore. -/
theorem frame_reference_ideal : Cert.quiescent_ReferenceIdeal := fun m ρ _ =>
  (θ_run _ _ _).mono (fun r hr => ⟨fun c => (hr c).2, sem_eq_zero_of_no_sems rfl r.2⟩) (Cert.ReferenceIdeal.Value.run m ρ)

/-- The reference at ideal floats under the precondition: a case of `frame_reference_ideal`. -/
theorem frame_reference_ideal_in_range : Cert.quiescent_ReferenceIdeal_pre_in_range := fun m ρ _ => frame_reference_ideal m ρ trivial

/-- The reference at machine floats runs and leaves its arguments unchanged; it declares no semaphore. -/
theorem frame_reference : Cert.quiescent_Reference := fun m ρ _ =>
  (θ_run _ _ _).mono (fun r hr => ⟨fun c => (hr c).2, sem_eq_zero_of_no_sems rfl r.2⟩) (Cert.Reference.Value.run m ρ)

/-! ## The values -/

/-- At ideal floats the kernel's output is the reference's. -/
theorem equal_ideal : Cert.algebraic_KernelIdeal_ReferenceIdeal := fun m ρ m' ρ' h hag => same_values (F := Ideal) m ρ m' ρ' h hag

/-- At machine floats the kernel's output is the reference's, bit for bit. -/
theorem equal_bits : Cert.bitexact_Kernel_Reference := fun m ρ m' ρ' h hag => same_values (F := Bits) m ρ m' ρ' h hag

/-- Every claim, with the facts the programs and the precondition state. -/
theorem claim : Cert.Claim :=
  ⟨Cert.Kernel.Gen.facts, Cert.KernelIdeal.Gen.facts, Cert.ReferenceIdeal.Gen.facts, Cert.Reference.Gen.facts, Cert.Pre_in_range.Gen.facts,
    frame_kernel, frame_kernel_ideal, frame_reference_ideal, frame_reference_ideal_in_range, frame_reference, trivial, equal_ideal, equal_bits⟩

end Cert.Proof

end
